-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_above_floor [hPre_above_floor : Cert.Pre_above_floor.Facts] (m : (ℓ : Loc Cert.KernelIdeal.nD Cert.KernelIdeal.τ Cert.KernelIdeal.sig) → Buf (Elt Ideal) ℓ) : Prop :=
  ∀ c : Dev Cert.KernelIdeal.nD,
    (Cert.Pre_above_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_floor [hPre_above_floor : Cert.Pre_above_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FlooredIdeal (m : (ℓ : Loc Cert.FlooredIdeal.nD Cert.FlooredIdeal.τ Cert.FlooredIdeal.sig) → Buf (Elt Ideal) ℓ) : Prop :=
  True

def Pre_FlooredIdeal_finite [hPre_finite : Cert.Pre_finite.Facts] (m : (ℓ : Loc Cert.FlooredIdeal.nD Cert.FlooredIdeal.τ Cert.FlooredIdeal.sig) → Buf (Elt Ideal) ℓ) : Prop :=
  ∀ c : Dev Cert.FlooredIdeal.nD,
    (Cert.Pre_finite.fn (F := Ideal) (m ((c.tc : Thread Cert.FlooredIdeal.nD Cert.FlooredIdeal.τ).loc Cert.FlooredIdeal.main_arg0)) (m ((c.tc : Thread Cert.FlooredIdeal.nD Cert.FlooredIdeal.τ).loc Cert.FlooredIdeal.main_arg1)) (m ((c.tc : Thread Cert.FlooredIdeal.nD Cert.FlooredIdeal.τ).loc Cert.FlooredIdeal.main_arg2)) (m ((c.tc : Thread Cert.FlooredIdeal.nD Cert.FlooredIdeal.τ).loc Cert.FlooredIdeal.main_arg3)) (m ((c.tc : Thread Cert.FlooredIdeal.nD Cert.FlooredIdeal.τ).loc Cert.FlooredIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_above_floor [hKernelIdeal : Cert.KernelIdeal.Facts] [hPre_above_floor : Cert.Pre_above_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_above_floor [hReferenceIdeal : Cert.ReferenceIdeal.Facts] [hPre_above_floor : Cert.Pre_above_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FlooredIdeal [hFlooredIdeal : Cert.FlooredIdeal.Facts] : Prop :=
  ∀ (m : (ℓ : Loc Cert.FlooredIdeal.nD Cert.FlooredIdeal.τ Cert.FlooredIdeal.sig) → Buf (Elt Ideal) ℓ) (g : Dev Cert.FlooredIdeal.nD → PrngReg), Pre_FlooredIdeal m →
    θ_run (Cert.FlooredIdeal.defs (F := Ideal)) (onTc (τ := Cert.FlooredIdeal.τ) (Cert.FlooredIdeal.main (F := Ideal))) ⟨m, fun _ => 0, g⟩ (fun r => (∀ c : Dev Cert.FlooredIdeal.nD,
      r.2.mem ((c.tc : Thread Cert.FlooredIdeal.nD Cert.FlooredIdeal.τ).loc Cert.FlooredIdeal.main_arg0) = m ((c.tc : Thread Cert.FlooredIdeal.nD Cert.FlooredIdeal.τ).loc Cert.FlooredIdeal.main_arg0)
      ∧ r.2.mem ((c.tc : Thread Cert.FlooredIdeal.nD Cert.FlooredIdeal.τ).loc Cert.FlooredIdeal.main_arg1) = m ((c.tc : Thread Cert.FlooredIdeal.nD Cert.FlooredIdeal.τ).loc Cert.FlooredIdeal.main_arg1)
      ∧ r.2.mem ((c.tc : Thread Cert.FlooredIdeal.nD Cert.FlooredIdeal.τ).loc Cert.FlooredIdeal.main_arg2) = m ((c.tc : Thread Cert.FlooredIdeal.nD Cert.FlooredIdeal.τ).loc Cert.FlooredIdeal.main_arg2)
      ∧ r.2.mem ((c.tc : Thread Cert.FlooredIdeal.nD Cert.FlooredIdeal.τ).loc Cert.FlooredIdeal.main_arg3) = m ((c.tc : Thread Cert.FlooredIdeal.nD Cert.FlooredIdeal.τ).loc Cert.FlooredIdeal.main_arg3)
      ∧ r.2.mem ((c.tc : Thread Cert.FlooredIdeal.nD Cert.FlooredIdeal.τ).loc Cert.FlooredIdeal.main_arg4) = m ((c.tc : Thread Cert.FlooredIdeal.nD Cert.FlooredIdeal.τ).loc Cert.FlooredIdeal.main_arg4))
      ∧ r.2.sem = fun _ => 0)

def quiescent_FlooredIdeal_pre_finite [hFlooredIdeal : Cert.FlooredIdeal.Facts] [hPre_finite : Cert.Pre_finite.Facts] : Prop :=
  ∀ (m : (ℓ : Loc Cert.FlooredIdeal.nD Cert.FlooredIdeal.τ Cert.FlooredIdeal.sig) → Buf (Elt Ideal) ℓ) (g : Dev Cert.FlooredIdeal.nD → PrngReg), Pre_FlooredIdeal_finite m →
    θ_run (Cert.FlooredIdeal.defs (F := Ideal)) (onTc (τ := Cert.FlooredIdeal.τ) (Cert.FlooredIdeal.main (F := Ideal))) ⟨m, fun _ => 0, g⟩ (fun r => (∀ c : Dev Cert.FlooredIdeal.nD,
      r.2.mem ((c.tc : Thread Cert.FlooredIdeal.nD Cert.FlooredIdeal.τ).loc Cert.FlooredIdeal.main_arg0) = m ((c.tc : Thread Cert.FlooredIdeal.nD Cert.FlooredIdeal.τ).loc Cert.FlooredIdeal.main_arg0)
      ∧ r.2.mem ((c.tc : Thread Cert.FlooredIdeal.nD Cert.FlooredIdeal.τ).loc Cert.FlooredIdeal.main_arg1) = m ((c.tc : Thread Cert.FlooredIdeal.nD Cert.FlooredIdeal.τ).loc Cert.FlooredIdeal.main_arg1)
      ∧ r.2.mem ((c.tc : Thread Cert.FlooredIdeal.nD Cert.FlooredIdeal.τ).loc Cert.FlooredIdeal.main_arg2) = m ((c.tc : Thread Cert.FlooredIdeal.nD Cert.FlooredIdeal.τ).loc Cert.FlooredIdeal.main_arg2)
      ∧ r.2.mem ((c.tc : Thread Cert.FlooredIdeal.nD Cert.FlooredIdeal.τ).loc Cert.FlooredIdeal.main_arg3) = m ((c.tc : Thread Cert.FlooredIdeal.nD Cert.FlooredIdeal.τ).loc Cert.FlooredIdeal.main_arg3)
      ∧ r.2.mem ((c.tc : Thread Cert.FlooredIdeal.nD Cert.FlooredIdeal.τ).loc Cert.FlooredIdeal.main_arg4) = m ((c.tc : Thread Cert.FlooredIdeal.nD Cert.FlooredIdeal.τ).loc Cert.FlooredIdeal.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_FlooredIdeal_pre_finite [hKernelIdeal : Cert.KernelIdeal.Facts] [hFlooredIdeal : Cert.FlooredIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FlooredIdeal.nD Cert.FlooredIdeal.τ Cert.FlooredIdeal.sig) → Buf (Elt Ideal) ℓ) (g' : Dev Cert.FlooredIdeal.nD → PrngReg), Pre_KernelIdeal_finite m →
    (∀ c : Dev Cert.KernelIdeal.nD,
      m' ((c.tc : Thread Cert.FlooredIdeal.nD Cert.FlooredIdeal.τ).loc Cert.FlooredIdeal.main_arg0) = m ((c.tc : Thread Cert.KernelIdeal.nD Cert.KernelIdeal.τ).loc Cert.KernelIdeal.main_arg0)
      ∧ m' ((c.tc : Thread Cert.FlooredIdeal.nD Cert.FlooredIdeal.τ).loc Cert.FlooredIdeal.main_arg1) = m ((c.tc : Thread Cert.KernelIdeal.nD Cert.KernelIdeal.τ).loc Cert.KernelIdeal.main_arg1)
      ∧ m' ((c.tc : Thread Cert.FlooredIdeal.nD Cert.FlooredIdeal.τ).loc Cert.FlooredIdeal.main_arg2) = m ((c.tc : Thread Cert.KernelIdeal.nD Cert.KernelIdeal.τ).loc Cert.KernelIdeal.main_arg2)
      ∧ m' ((c.tc : Thread Cert.FlooredIdeal.nD Cert.FlooredIdeal.τ).loc Cert.FlooredIdeal.main_arg3) = m ((c.tc : Thread Cert.KernelIdeal.nD Cert.KernelIdeal.τ).loc Cert.KernelIdeal.main_arg3)
      ∧ m' ((c.tc : Thread Cert.FlooredIdeal.nD Cert.FlooredIdeal.τ).loc Cert.FlooredIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.FlooredIdeal.defs (F := Ideal)) (onTc (τ := Cert.FlooredIdeal.τ) (Cert.FlooredIdeal.main (F := Ideal))) ⟨m', fun _ => 0, g'⟩ (fun r => ∀ c : Dev Cert.FlooredIdeal.nD,
          r.2.mem ((c.tc : Thread Cert.FlooredIdeal.nD Cert.FlooredIdeal.τ).loc Cert.FlooredIdeal.main_v27) = v0 c
          ∧ r.2.mem ((c.tc : Thread Cert.FlooredIdeal.nD Cert.FlooredIdeal.τ).loc Cert.FlooredIdeal.main_arg0) = m' ((c.tc : Thread Cert.FlooredIdeal.nD Cert.FlooredIdeal.τ).loc Cert.FlooredIdeal.main_arg0)
          ∧ r.2.mem ((c.tc : Thread Cert.FlooredIdeal.nD Cert.FlooredIdeal.τ).loc Cert.FlooredIdeal.main_arg1) = m' ((c.tc : Thread Cert.FlooredIdeal.nD Cert.FlooredIdeal.τ).loc Cert.FlooredIdeal.main_arg1)
          ∧ r.2.mem ((c.tc : Thread Cert.FlooredIdeal.nD Cert.FlooredIdeal.τ).loc Cert.FlooredIdeal.main_arg2) = m' ((c.tc : Thread Cert.FlooredIdeal.nD Cert.FlooredIdeal.τ).loc Cert.FlooredIdeal.main_arg2)
          ∧ r.2.mem ((c.tc : Thread Cert.FlooredIdeal.nD Cert.FlooredIdeal.τ).loc Cert.FlooredIdeal.main_arg3) = m' ((c.tc : Thread Cert.FlooredIdeal.nD Cert.FlooredIdeal.τ).loc Cert.FlooredIdeal.main_arg3)
          ∧ r.2.mem ((c.tc : Thread Cert.FlooredIdeal.nD Cert.FlooredIdeal.τ).loc Cert.FlooredIdeal.main_arg4) = m' ((c.tc : Thread Cert.FlooredIdeal.nD Cert.FlooredIdeal.τ).loc Cert.FlooredIdeal.main_arg4))

def algebraic_KernelIdeal_ReferenceIdeal_pre_above_floor [hKernelIdeal : Cert.KernelIdeal.Facts] [hReferenceIdeal : Cert.ReferenceIdeal.Facts] [hPre_above_floor : Cert.Pre_above_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hFlooredIdeal : Cert.FlooredIdeal.Facts) (hPre_finite : Cert.Pre_finite.Facts) (hPre_above_floor : Cert.Pre_above_floor.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_above_floor (hKernelIdeal := hKernelIdeal) (hPre_above_floor := hPre_above_floor)
    ∧ quiescent_ReferenceIdeal (hReferenceIdeal := hReferenceIdeal)
    ∧ quiescent_ReferenceIdeal_pre_above_floor (hReferenceIdeal := hReferenceIdeal) (hPre_above_floor := hPre_above_floor)
    ∧ quiescent_FlooredIdeal (hFlooredIdeal := hFlooredIdeal)
    ∧ quiescent_FlooredIdeal_pre_finite (hFlooredIdeal := hFlooredIdeal) (hPre_finite := hPre_finite)
    ∧ preserves_Kernel_KernelIdeal
    ∧ algebraic_KernelIdeal_FlooredIdeal_pre_finite (hKernelIdeal := hKernelIdeal) (hFlooredIdeal := hFlooredIdeal) (hPre_finite := hPre_finite)
    ∧ algebraic_KernelIdeal_ReferenceIdeal_pre_above_floor (hKernelIdeal := hKernelIdeal) (hReferenceIdeal := hReferenceIdeal) (hPre_above_floor := hPre_above_floor)
-- ==== Pre_above_floor.lean ====
abbrev S64x128 : Shape := ⟨2, ![64, 128]⟩
abbrev S65536x128 : Shape := ⟨2, ![65536, 128]⟩
abbrev S65536 : Shape := ⟨1, ![65536]⟩
abbrev S128x128 : Shape := ⟨2, ![128, 128]⟩
abbrev S128 : Shape := ⟨1, ![128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536 : S_.BroadcastsInDim S65536 (![] : Fin 0 → Fin S65536.rank)
  reducesTo_S65536_S_d0 : S65536.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : FVec F S65536 .f32) (main_arg4 : FVec F S128 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128 .f32 := Host.absf main_arg4
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_cst_8 : FVec F S_ .f32 := constant S_ .f32 0x383E6BCE#32
  let main_v23 : FVec F S65536 .f32 := broadcastInDim S65536 ![] bcast_S_S65536 main_cst_8
  let main_v24 : IVec S65536 1 := cmpf .oge main_arg2 main_v23
  let main_c_9 : IVec S_ 1 := constantI S_ 1 1#1
  let main_v25 : IVec S_ 1 := (fun x v => Host.reduce IntOp.andi x v reducesTo_S65536_S_d0 h_S_) main_v24 main_c_9
  let main_v26 : IVec S_ 1 := andi main_v22 main_v25
  main_v26

def fn {F : FTy → Type} [FloatOps F] (main_arg0 : FVec F S64x128 .f32) (main_arg1 : FVec F S65536x128 .f32) (main_arg2 : FVec F S65536 .f32) (main_arg3 : FVec F S128x128 .f32) (main_arg4 : FVec F S128 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_cst_2 : FVec F S_ .f32 := constant S_ .f32 0x7F800000#32
  let main_v9 : FVec F S65536 .f32 := broadcastInDim S65536 ![] bcast_S_S65536 main_cst_2
  let main_v10 : IVec S65536 1 := cmpf .olt main_arg2 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_v13 : FVec F S128x128 .f32 := Host.absf main_arg3
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg2 main_arg4 main_v12 main_v15 main_c_5
-- ==== Pre_finite.lean ====
abbrev S64x128 : Shape := ⟨2, ![64, 128]⟩
abbrev S65536x128 : Shape := ⟨2, ![65536, 128]⟩
abbrev S65536 : Shape := ⟨1, ![65536]⟩
abbrev S128x128 : Shape := ⟨2, ![128, 128]⟩
abbrev S128 : Shape := ⟨1, ![128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536 : S_.BroadcastsInDim S65536 (![] : Fin 0 → Fin S65536.rank)
  reducesTo_S65536_S_d0 : S65536.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128 .f32 := Host.absf main_arg4
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  main_v22

def fn {F : FTy → Type} [FloatOps F] (main_arg0 : FVec F S64x128 .f32) (main_arg1 : FVec F S65536x128 .f32) (main_arg2 : FVec F S65536 .f32) (main_arg3 : FVec F S128x128 .f32) (main_arg4 : FVec F S128 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_cst_2 : FVec F S_ .f32 := constant S_ .f32 0x7F800000#32
  let main_v9 : FVec F S65536 .f32 := broadcastInDim S65536 ![] bcast_S_S65536 main_cst_2
  let main_v10 : IVec S65536 1 := cmpf .olt main_arg2 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_v13 : FVec F S128x128 .f32 := Host.absf main_arg3
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg4 main_v12 main_v15 main_c_5
-- ==== Kernel.lean ====
abbrev S64x128 : Shape := ⟨2, ![64, 128]⟩
abbrev S65536x128 : Shape := ⟨2, ![65536, 128]⟩
abbrev S65536 : Shape := ⟨1, ![65536]⟩
abbrev S128x128 : Shape := ⟨2, ![128, 128]⟩
abbrev S128 : Shape := ⟨1, ![128]⟩
abbrev S1x65536 : Shape := ⟨2, ![1, 65536]⟩
abbrev S1x128 : Shape := ⟨2, ![1, 128]⟩
abbrev S8192x128 : Shape := ⟨2, ![8192, 128]⟩
abbrev S1x8192 : Shape := ⟨2, ![1, 8192]⟩
abbrev S64x8192 : Shape := ⟨2, ![64, 8192]⟩
abbrev S64 : Shape := ⟨1, ![64]⟩
abbrev S64x1 : Shape := ⟨2, ![64, 1]⟩

abbrev nBuf : Space → Nat
  | .hbm => 8
  | .vmem => 11
  | .smem => 0
  | _ => 0

abbrev bufTy : (tb : Table) → Fin (tcTables nBuf tb) → BufTy
  | .hbm, ⟨0, _⟩ => ⟨S64x128, .f32⟩
  | .hbm, ⟨1, _⟩ => ⟨S65536x128, .f32⟩
  | .hbm, ⟨2, _⟩ => ⟨S65536, .f32⟩
  | .hbm, ⟨3, _⟩ => ⟨S128x128, .f32⟩
  | .hbm, ⟨4, _⟩ => ⟨S128, .f32⟩
  | .hbm, ⟨5, _⟩ => ⟨S1x65536, .f32⟩
  | .hbm, ⟨6, _⟩ => ⟨S1x128, .f32⟩
  | .hbm, ⟨7, _⟩ => ⟨S64x128, .f32⟩
  | .local _ .vmem, ⟨0, _⟩ => ⟨S64x128, .f32⟩
  | .local _ .vmem, ⟨1, _⟩ => ⟨S128x128, .f32⟩
  | .local _ .vmem, ⟨2, _⟩ => ⟨S1x128, .f32⟩
  | .local _ .vmem, ⟨3, _⟩ => ⟨S8192x128, .f32⟩
  | .local _ .vmem, ⟨4, _⟩ => ⟨S8192x128, .f32⟩
  | .local _ .vmem, ⟨5, _⟩ => ⟨S1x8192, .f32⟩
  | .local _ .vmem, ⟨6, _⟩ => ⟨S1x8192, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S64x128 : Shape := ⟨2, ![64, 128]⟩
abbrev S65536x128 : Shape := ⟨2, ![65536, 128]⟩
abbrev S65536 : Shape := ⟨1, ![65536]⟩
abbrev S128x128 : Shape := ⟨2, ![128, 128]⟩
abbrev S128 : Shape := ⟨1, ![128]⟩
abbrev S1x128 : Shape := ⟨2, ![1, 128]⟩
abbrev S128x65536 : Shape := ⟨2, ![128, 65536]⟩
abbrev S64x65536 : Shape := ⟨2, ![64, 65536]⟩
abbrev S_ : Shape := ⟨0, ![]⟩
abbrev S1x65536 : Shape := ⟨2, ![1, 65536]⟩
abbrev S64 : Shape := ⟨1, ![64]⟩
abbrev S64x1 : Shape := ⟨2, ![64, 1]⟩

abbrev nBuf : Space → Nat
  | .hbm => 39
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S65536x128, .f32⟩
  | .hbm, ⟨2, _⟩ => ⟨S65536, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S1x128, .f32⟩
  | .hbm, ⟨8, _⟩ => ⟨S64x128, .f32⟩
  | .hbm, ⟨9, _⟩ => ⟨S64x128, .f32⟩
  | .hbm, ⟨10, _⟩ => ⟨S128x65536, .f32⟩
  | .hbm, ⟨11, _⟩ => ⟨S64x65536, .f32⟩
  | .hbm, ⟨12, _⟩ => ⟨S_, .f32⟩
  | .hbm, ⟨13, _⟩ => ⟨S_, .f32⟩
  | .hbm, ⟨14, _⟩ => ⟨S64x65536, .f32⟩
  | .hbm, ⟨15, _⟩ => ⟨S64x65536, .f32⟩
  | .hbm, ⟨16, _⟩ => ⟨S65536, .f32⟩
  | .hbm, ⟨17, _⟩ => ⟨S_, .f32⟩
  | .hbm, ⟨18, _⟩ => ⟨S_, .f32⟩
  | .hbm, ⟨19, _⟩ => ⟨S65536, .f32⟩
  | .hbm, ⟨20, _⟩ => ⟨S65536, .f32⟩
  | .hbm, ⟨21, _⟩ => ⟨S1x65536, .f32⟩
  | .hbm, ⟨22, _⟩ => ⟨S64x65536, .f32⟩
  | .hbm, ⟨23, _⟩ => ⟨S64x65536, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S64x65536, .f32⟩
  | .hbm, ⟨31, _⟩ => ⟨S64x65536, .f32⟩
  | .hbm, ⟨32, _⟩ => ⟨S64x65536, .f32⟩
  | .hbm, ⟨33, _⟩ => ⟨S_, .f32⟩
  | .hbm, ⟨34, _⟩ => ⟨S64, .f32⟩
  | .hbm, ⟨35, _⟩ => ⟨S64x1, .f32⟩
  | .hbm, ⟨36, _⟩ => ⟨S64x65536, .f32⟩
  | .hbm, ⟨37, _⟩ => ⟨S64x65536, .f32⟩
  | .hbm, ⟨38, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== FlooredIdeal.lean ====
abbrev S64x128 : Shape := ⟨2, ![64, 128]⟩
abbrev S65536x128 : Shape := ⟨2, ![65536, 128]⟩
abbrev S65536 : Shape := ⟨1, ![65536]⟩
abbrev S128x128 : Shape := ⟨2, ![128, 128]⟩
abbrev S128 : Shape := ⟨1, ![128]⟩
abbrev S1x128 : Shape := ⟨2, ![1, 128]⟩
abbrev S128x65536 : Shape := ⟨2, ![128, 65536]⟩
abbrev S64x65536 : Shape := ⟨2, ![64, 65536]⟩
abbrev S_ : Shape := ⟨0, ![]⟩
abbrev S1x65536 : Shape := ⟨2, ![1, 65536]⟩
abbrev S64 : Shape := ⟨1, ![64]⟩
abbrev S64x1 : Shape := ⟨2, ![64, 1]⟩

abbrev nBuf : Space → Nat
  | .hbm => 39
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S65536x128, .f32⟩
  | .hbm, ⟨2, _⟩ => ⟨S65536, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S1x128, .f32⟩
  | .hbm, ⟨8, _⟩ => ⟨S64x128, .f32⟩
  | .hbm, ⟨9, _⟩ => ⟨S64x128, .f32⟩
  | .hbm, ⟨10, _⟩ => ⟨S128x65536, .f32⟩
  | .hbm, ⟨11, _⟩ => ⟨S64x65536, .f32⟩
  | .hbm, ⟨12, _⟩ => ⟨S_, .f32⟩
  | .hbm, ⟨13, _⟩ => ⟨S_, .f32⟩
  | .hbm, ⟨14, _⟩ => ⟨S64x65536, .f32⟩
  | .hbm, ⟨15, _⟩ => ⟨S64x65536, .f32⟩
  | .hbm, ⟨16, _⟩ => ⟨S_, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S1x65536, .f32⟩
  | .hbm, ⟨22, _⟩ => ⟨S64x65536, .f32⟩
  | .hbm, ⟨23, _⟩ => ⟨S64x65536, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S64x65536, .f32⟩
  | .hbm, ⟨31, _⟩ => ⟨S64x65536, .f32⟩
  | .hbm, ⟨32, _⟩ => ⟨S64x65536, .f32⟩
  | .hbm, ⟨33, _⟩ => ⟨S_, .f32⟩
  | .hbm, ⟨34, _⟩ => ⟨S64, .f32⟩
  | .hbm, ⟨35, _⟩ => ⟨S64x1, .f32⟩
  | .hbm, ⟨36, _⟩ => ⟨S64x65536, .f32⟩
  | .hbm, ⟨37, _⟩ => ⟨S64x65536, .f32⟩
  | .hbm, ⟨38, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Pieces.lean ====
module

public import proofs.«01_k».proof.Proof.Gen.KernelIdeal.Value
public import Idealize.ShloMosaic.Lib.Tactic

@[expose] public section

noncomputable section

/-! # What one grid point leaves in each buffer

At a grid point the body stores whole buffers only, so what it leaves in a buffer is the value of its last store there,
computed from what it loaded.  One theorem per buffer and kind of point: the first point (A), a middle point (B), the
last point (C). -/

namespace Cert.KernelIdeal.Pieces

open Idealize.ShloMosaic Idealize.ShloMosaic.TcCoe Idealize.SL.Sem
open Cert.KernelIdeal Cert.KernelIdeal.Gen

variable {F : FTy → Type} [FloatOps F] [Named F]
variable (c : Dev nD) (i : grid0.Coords)
  {a1 : Memref sig .tc .vmem S64x128 .f32} {h1 : a1.IsWhole} {a2 : Memref sig .tc .vmem S128x128 .f32} {h2 : a2.IsWhole}
  {a3 : Memref sig .tc .vmem S1x128 .f32} {h3 : a3.IsWhole} {a4 : Memref sig .tc .vmem S8192x128 .f32} {h4 : a4.IsWhole}
  {a5 : Memref sig .tc .vmem S1x8192 .f32} {h5 : a5.IsWhole} {a6 : Memref sig .tc .vmem S64x128 .f32} {h6 : a6.IsWhole}
  {a7 : Memref sig .tc .vmem S64x128 .f32} {h7 : a7.IsWhole} {a8 : Memref sig .tc .vmem S64x128 .f32} {h8 : a8.IsWhole}
  {a9 : Memref sig .tc .vmem S64x128 .f32} {h9 : a9.IsWhole}
  (x0 : Vec F S64x128 .f32) (x1 : Vec F S128x128 .f32) (x2 : Vec F S1x128 .f32) (x3 : Vec F S8192x128 .f32)
  (x4 : Vec F S1x8192 .f32) (qp l acc : Vec F S64x128 .f32)

/-- The offsets every load and store of the body uses: none. -/
theorem zero_off : (![0, 0] : Fin 2 → Nat) = fun _ => 0 := funext fun a => by fin_cases a <;> rfl

/-- The first point leaves the projected, scaled query in its scratch. -/
theorem first_qp (hc0 : cond0_0 i) (hc1 : ¬cond0_1 i) :
    sout0_A_0 c i a1 h1 a2 h2 a3 h3 a4 h4 a5 h5 a6 h6 a7 h7 a8 h8 a9 h9 hc0 hc1 x0 x1 x2 x3 x4 = k0_pay1 x0 x1 x2 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  sl_unfold_words
  rw [View.canon_unit_zero zero_off]
  simp only [View.readAt_eq_ld, h1.read_unread, h2.read_unread, h3.read_unread, View.ld_unit_zero (S := S64x128) zero_off,
    View.ld_unit_zero (S := S128x128) zero_off, View.ld_unit_zero (S := S1x128) zero_off]

/-- The first point leaves, in the denominator's scratch, the first block's sums added to zero. -/
theorem first_l (hc0 : cond0_0 i) (hc1 : ¬cond0_1 i) :
    sout0_A_1 c i a1 h1 a2 h2 a3 h3 a4 h4 a5 h5 a6 h6 a7 h7 a8 h8 a9 h9 hc0 hc1 x0 x1 x2 x3 x4
      = k0_pay5 x3 (k0_pay1 x0 x1 x2) x4 (k0_pay2 (F := F)) := by
  unfold sout0_A_1
  rw [View.read_writes_eq_canon _ _ _ (scover0_A_1 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S64x128) zero_off]
  simp only [View.readCov_unit_zero (S := S64x128) _ zero_off]
  simp only [View.readAt_eq_ld, h1.read_unread, h2.read_unread, h3.read_unread, h4.read_unread, h5.read_unread, View.ld_unit_zero (S := S64x128) zero_off,
    View.ld_unit_zero (S := S128x128) zero_off, View.ld_unit_zero (S := S1x128) zero_off, View.ld_unit_zero (S := S8192x128) zero_off, View.ld_unit_zero (S := S1x8192) zero_off]

/-- The first point leaves, in the numerator's scratch, the first block's weighted slots added to zero. -/
theorem first_acc (hc0 : cond0_0 i) (hc1 : ¬cond0_1 i) :
    sout0_A_2 c i a1 h1 a2 h2 a3 h3 a4 h4 a5 h5 a6 h6 a7 h7 a8 h8 a9 h9 hc0 hc1 x0 x1 x2 x3 x4
      = k0_pay6 x3 (k0_pay1 x0 x1 x2) x4 (k0_pay3 (F := F)) := by
  unfold sout0_A_2
  rw [View.read_writes_eq_canon _ _ _ (scover0_A_2 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S64x128) zero_off]
  simp only [View.readCov_unit_zero (S := S64x128) _ zero_off]
  simp only [View.readAt_eq_ld, h1.read_unread, h2.read_unread, h3.read_unread, h4.read_unread, h5.read_unread, View.ld_unit_zero (S := S64x128) zero_off,
    View.ld_unit_zero (S := S128x128) zero_off, View.ld_unit_zero (S := S1x128) zero_off, View.ld_unit_zero (S := S8192x128) zero_off, View.ld_unit_zero (S := S1x8192) zero_off]

/-- A middle point adds its block's sums to the denominator's scratch. -/
theorem mid_l (hc0 : ¬cond0_0 i) (hc1 : ¬cond0_1 i) :
    sout0_B_1 c i a1 h1 a2 h2 a3 h3 a4 h4 a5 h5 a6 h6 a7 h7 a8 h8 a9 h9 hc0 hc1 x0 x1 x2 x3 x4 qp l acc = k0_pay5 x3 qp x4 l := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 qp l acc)]
  unfold kernelRun0_B
  dsimp only
  sl_unfold_words
  rw [View.canon_unit_zero zero_off]
  simp only [View.readAt_eq_ld, h4.read_unread, h5.read_unread, h7.read_unread, h8.read_unread, View.ld_unit_zero (S := S64x128) zero_off,
    View.ld_unit_zero (S := S8192x128) zero_off, View.ld_unit_zero (S := S1x8192) zero_off]

/-- A middle point adds its block's weighted slots to the numerator's scratch. -/
theorem mid_acc (hc0 : ¬cond0_0 i) (hc1 : ¬cond0_1 i) :
    sout0_B_2 c i a1 h1 a2 h2 a3 h3 a4 h4 a5 h5 a6 h6 a7 h7 a8 h8 a9 h9 hc0 hc1 x0 x1 x2 x3 x4 qp l acc = k0_pay6 x3 qp x4 acc := by
  unfold sout0_B_2
  rw [View.read_writes_eq_canon _ _ _ (scover0_B_2 c i a1 h1 a2 h2 a3 h3 a4 h4 a5 h5 a6 h6 a7 h7 a8 h8 a9 h9 hc0 hc1 x0 x1 x2 x3 x4 qp l acc)]
  unfold kernelRun0_B
  dsimp only
  sl_unfold_words
  rw [View.canon_unit_zero zero_off]
  simp only [View.readAt_eq_ld, h4.read_unread, h5.read_unread, h7.read_unread, h9.read_unread, View.ld_unit_zero (S := S64x128) zero_off,
    View.ld_unit_zero (S := S8192x128) zero_off, View.ld_unit_zero (S := S1x8192) zero_off]

/-- The last point adds its block to both scratches and stores their quotient as the result. -/
theorem last_out (hc0 : ¬cond0_0 i) (hc1 : cond0_1 i) :
    out0_C_5 c i a1 h1 a2 h2 a3 h3 a4 h4 a5 h5 a6 h6 a7 h7 a8 h8 a9 h9 hc0 hc1 x0 x1 x2 x3 x4 qp l acc
      = k0_pay7 (k0_pay6 x3 qp x4 acc) (k0_pay5 x3 qp x4 l) := by
  unfold out0_C_5
  rw [View.read_writes_eq_canon _ _ _ (cover0_C_5 c i a1 h1 a2 h2 a3 h3 a4 h4 a5 h5 a6 h6 a7 h7 a8 h8 a9 h9 hc0 hc1 x0 x1 x2 x3 x4 qp l acc)]
  unfold kernelRun0_C
  dsimp only
  sl_unfold_words
  rw [View.canon_unit_zero zero_off]
  simp only [View.readCov_unit_zero (S := S64x128) _ zero_off]
  simp only [View.readAt_eq_ld, h4.read_unread, h5.read_unread, h7.read_unread, h8.read_unread, h9.read_unread, View.ld_unit_zero (S := S64x128) zero_off,
    View.ld_unit_zero (S := S8192x128) zero_off, View.ld_unit_zero (S := S1x8192) zero_off]

end Cert.KernelIdeal.Pieces

end
-- ==== Proof.Block.lean ====
module

public import proofs.«01_k».proof.Proof.Gen.KernelIdeal.Value
public import Idealize.ShloMosaic.Lib.Pointwise
public import Idealize.ShloMosaic.PureOps.IdealRules

@[expose] public section

set_option maxRecDepth 16384

noncomputable section

/-! # What the kernel computes on one block, element by element, over the extended reals

`r` is a query row, `k` a slot of the block, `d` a feature. -/

namespace Cert.KernelIdeal.Block

open Idealize.ShloMosaic Idealize.ShloMosaic.TcCoe
open Cert.KernelIdeal Cert.KernelIdeal.Gen

/-- The scale the kernel multiplies the projected query by is one over the square root of 128. -/
theorem scale_eq :
    Named.named (F := Ideal) κ "inv_sqrt_d" (φ := .f32) 0x3DB504F3#32 = (((Real.sqrt 128)⁻¹ : ℝ) : EReal) :=
  IdealRules.named_const.ideal_named_scalar _ _ _ _ rfl

/-- The query's scratch: the query's projection plus the bias, times the scale. -/
theorem qp_apply (q : Vec Ideal S64x128 .f32) (w : Vec Ideal S128x128 .f32) (b : Vec Ideal S1x128 .f32) (r : Fin 64) (d : Fin 128) :
    k0_pay1 (F := Ideal) q w b (ix2 r d)
      = ((∑ e : Fin 128, q (ix2 r e) * w (ix2 d e)) + b (ix2 0 d)) * (((Real.sqrt 128)⁻¹ : ℝ) : EReal) := by
  pointwise [k0_pay1]
  rw [scale_eq]

/-- The weight of slot `k` for query row `r`, unnormalised: the exponential of their score times the floored activation. -/
theorem p_apply (x : Vec Ideal S8192x128 .f32) (qp : Vec Ideal S64x128 .f32) (a : Vec Ideal S1x8192 .f32) (r : Fin 64) (k : Fin 8192) :
    k0_pay4 (F := Ideal) x qp a (ix2 r k)
      = Ideal.exp (∑ d : Fin 128, qp (ix2 r d) * x (ix2 k d)) * max (a (ix2 0 k)) (Ideal.ofBits .f32 0x383E6BCE#32) := by
  pointwise [k0_pay4]

/-- The denominator's scratch gains the sum of the block's weights, the same in every lane. -/
theorem l_apply (x : Vec Ideal S8192x128 .f32) (qp : Vec Ideal S64x128 .f32) (a : Vec Ideal S1x8192 .f32) (l : Vec Ideal S64x128 .f32)
    (r : Fin 64) (d : Fin 128) :
    k0_pay5 (F := Ideal) x qp a l (ix2 r d) = l (ix2 r d) + ∑ k : Fin 8192, k0_pay4 (F := Ideal) x qp a (ix2 r k) := by
  pointwise [k0_pay5]

/-- The numerator's scratch gains the block's slots, each times its weight. -/
theorem acc_apply (x : Vec Ideal S8192x128 .f32) (qp : Vec Ideal S64x128 .f32) (a : Vec Ideal S1x8192 .f32) (l : Vec Ideal S64x128 .f32)
    (r : Fin 64) (d : Fin 128) :
    k0_pay6 (F := Ideal) x qp a l (ix2 r d)
      = l (ix2 r d) + ∑ k : Fin 8192, k0_pay4 (F := Ideal) x qp a (ix2 r k) * x (ix2 k d) := by
  pointwise [k0_pay6]

/-- The denominator's scratch starts at zero. -/
theorem l_zero (j : S64x128.Idx) : k0_pay2 (F := Ideal) j = 0 := by
  pointwise [k0_pay2]

/-- The numerator's scratch starts at zero. -/
theorem acc_zero (j : S64x128.Idx) : k0_pay3 (F := Ideal) j = 0 := by
  pointwise [k0_pay3]

/-- The result is the quotient of the two scratches. -/
theorem out_apply (x y : Vec Ideal S64x128 .f32) (j : S64x128.Idx) : k0_pay7 (F := Ideal) x y j = Ideal.div (x j) (y j) := by
  pointwise [k0_pay7]

/-! ## What the kernel loads at a grid point -/

variable (m : (ℓ : Loc nD τ sig) → Buf (Elt Ideal) ℓ) (c : Dev nD)

/-- Every point loads the whole query. -/
theorem query_apply (t : Fin cfg0.N) (r : Fin 64) (d : Fin 128) :
    (iblk m c 0 t : Vec Ideal S64x128 .f32) (ix2 r d) = m ((c.tc : Thread nD τ).loc main_arg0) (ix2 r d) := by
  have hi := (by decide +kernel : ∀ t : Fin grid0.N, win0_0.index t 0 = 0 ∧ win0_0.index t 1 = 0) t
  unfold iblk
  rw [View.read_apply]
  show V m c main_arg0 _ = m (c.tc.loc main_arg0) _
  rw [V_main_arg0]
  congr 1
  funext a
  apply Fin.ext
  match a with
  | ⟨0, _⟩ => show win0_0.index t 0 * 64 + 1 * r.val = r.val; rw [hi.1]; omega
  | ⟨1, _⟩ => show win0_0.index t 1 * 128 + 1 * d.val = d.val; rw [hi.2]; omega

/-- Every point loads the whole projection matrix. -/
theorem weight_apply (t : Fin cfg0.N) (r : Fin 128) (d : Fin 128) :
    (iblk m c 1 t : Vec Ideal S128x128 .f32) (ix2 r d) = m ((c.tc : Thread nD τ).loc main_arg3) (ix2 r d) := by
  have hi := (by decide +kernel : ∀ t : Fin grid0.N, win0_1.index t 0 = 0 ∧ win0_1.index t 1 = 0) t
  unfold iblk
  rw [View.read_apply]
  show V m c main_arg3 _ = m (c.tc.loc main_arg3) _
  rw [V_main_arg3]
  congr 1
  funext a
  apply Fin.ext
  match a with
  | ⟨0, _⟩ => show win0_1.index t 0 * 128 + 1 * r.val = r.val; rw [hi.1]; omega
  | ⟨1, _⟩ => show win0_1.index t 1 * 128 + 1 * d.val = d.val; rw [hi.2]; omega

/-- A vector laid out as one row keeps its entries in order. -/
theorem row_apply (x : Vec Ideal S65536 .f32) (h : S65536.ShapeCasts S1x65536) (n : Fin 65536) :
    shapeCast S1x65536 x h (ix2 0 n) = x (ix1 n) := by
  refine shapeCast_apply _ _ _ _ ?_
  rw [rowMajor_val1, rowMajor_val2 _ 65536 rfl]
  show n.val = 0 * 65536 + n.val
  omega

/-- The bias as one row, as the host hands it to the kernel. -/
theorem V_bias : V m c main_v1 = shapeCast S1x128 (m ((c.tc : Thread nD τ).loc main_arg4)) shapeCasts_S128_S1x128 := by
  unfold V
  simp only [hostOps0]
  after_results
  rfl

/-- The activations as one row, as the host hands them to the kernel. -/
theorem V_act : V m c main_v0 = shapeCast S1x65536 (m ((c.tc : Thread nD τ).loc main_arg2)) shapeCasts_S65536_S1x65536 := by
  unfold V
  simp only [hostOps0]
  after_results
  rfl

/-- Every point loads the whole bias. -/
theorem bias_apply (t : Fin cfg0.N) (d : Fin 128) :
    (iblk m c 2 t : Vec Ideal S1x128 .f32) (ix2 0 d) = m ((c.tc : Thread nD τ).loc main_arg4) (ix1 d) := by
  have hi := (by decide +kernel : ∀ t : Fin grid0.N, win0_2.index t 0 = 0 ∧ win0_2.index t 1 = 0) t
  have e : (iblk m c 2 t : Vec Ideal S1x128 .f32) (ix2 0 d) = V m c main_v1 (ix2 0 d) := by
    unfold iblk
    rw [View.read_apply]
    show V m c main_v1 _ = V m c main_v1 _
    congr 1
    funext a
    apply Fin.ext
    match a with
    | ⟨0, _⟩ => show win0_2.index t 0 * 1 + 1 * 0 = 0; rw [hi.1]
    | ⟨1, _⟩ => show win0_2.index t 1 * 128 + 1 * d.val = d.val; rw [hi.2]; omega
  rw [e, V_bias]
  pointwise

/-- Slot number `8192 t + k` of all 65536: slot `k` of block `t`. -/
def slot (t : ℕ) (k : Fin 8192) : Fin 65536 := ⟨(8192 * t + k.val) % 65536, Nat.mod_lt _ (by decide)⟩

/-- Point `t` loads block `t` of the slots. -/
theorem slots_apply (t : Fin cfg0.N) (k : Fin 8192) (d : Fin 128) :
    (iblk m c 3 t : Vec Ideal S8192x128 .f32) (ix2 k d) = m ((c.tc : Thread nD τ).loc main_arg1) (ix2 (slot t.val k) d) := by
  have hN : t.val < 8 := lt_of_lt_of_eq t.isLt N_0
  have hi := (by decide +kernel : ∀ t : Fin grid0.N, win0_3.index t 0 = t.val ∧ win0_3.index t 1 = 0) t
  unfold iblk
  rw [View.read_apply]
  show V m c main_arg1 _ = m (c.tc.loc main_arg1) _
  rw [V_main_arg1]
  congr 1
  funext a
  apply Fin.ext
  match a with
  | ⟨0, _⟩ => show win0_3.index t 0 * 8192 + 1 * k.val = (8192 * t.val + k.val) % 65536; rw [hi.1]; omega
  | ⟨1, _⟩ => show win0_3.index t 1 * 128 + 1 * d.val = d.val; rw [hi.2]; omega

/-- Point `t` loads block `t` of the activations. -/
theorem act_apply (t : Fin cfg0.N) (k : Fin 8192) :
    (iblk m c 4 t : Vec Ideal S1x8192 .f32) (ix2 0 k) = m ((c.tc : Thread nD τ).loc main_arg2) (ix1 (slot t.val k)) := by
  have hN : t.val < 8 := lt_of_lt_of_eq t.isLt N_0
  have hi := (by decide +kernel : ∀ t : Fin grid0.N, win0_4.index t 0 = 0 ∧ win0_4.index t 1 = t.val) t
  have e : (iblk m c 4 t : Vec Ideal S1x8192 .f32) (ix2 0 k) = V m c main_v0 (ix2 0 (slot t.val k)) := by
    unfold iblk
    rw [View.read_apply]
    show V m c main_v0 _ = V m c main_v0 _
    congr 1
    funext a
    apply Fin.ext
    match a with
    | ⟨0, _⟩ => show win0_4.index t 0 * 1 + 1 * 0 = 0; rw [hi.1]
    | ⟨1, _⟩ => show win0_4.index t 1 * 8192 + 1 * k.val = (8192 * t.val + k.val) % 65536; rw [hi.2]; omega
  rw [e, V_act]
  exact row_apply _ _ _

end Cert.KernelIdeal.Block

end
-- ==== Proof.Softmax.lean ====
module

public import Idealize.ShloMosaic.PureOps.Ideal

@[expose] public section

noncomputable section

/-! # Weighted means and softmax over the extended reals, where every entry is a real number

Nothing here mentions either program. -/

namespace Cert.Softmax

open Idealize.ShloMosaic

variable {ι : Type} [Fintype ι]

/-- A sum of reals, summed as extended reals, is the sum of the reals. -/
theorem sum_coe {κ : Type} (s : Finset κ) (f : κ → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

/-- The quotient of two reals, the second not zero, is the real quotient. -/
theorem div_real (x : ℝ) {y : ℝ} (h : y ≠ 0) : Ideal.div (x : EReal) (y : EReal) = ((x / y : ℝ) : EReal) := by
  rw [Ideal.div_coe h, ← EReal.coe_mul, one_div, div_eq_mul_inv]

/-- The mean of `v` with weights `w`. -/
def mean (w v : ι → ℝ) : ℝ := (∑ k, w k * v k) / ∑ k, w k

/-- Scaling every weight by one nonzero number leaves the mean as it is. -/
theorem mean_scale (w v : ι → ℝ) {z : ℝ} (hz : z ≠ 0) : mean (fun k => w k * z) v = mean w v := by
  unfold mean
  rw [← Finset.sum_mul, show (∑ k, w k * z * v k) = (∑ k, w k * v k) * z from by
    rw [Finset.sum_mul]; exact Finset.sum_congr rfl fun k _ => by ring]
  exact mul_div_mul_right _ _ hz

/-- Softmax then a weighted sum is a mean: normalising the exponentials of `x` shifted by any real `M` and summing `v` with
    them is the mean of `v` with weights `exp x`. -/
theorem softmax_mean [Nonempty ι] (x v : ι → ℝ) (M : ℝ) :
    (∑ k, Ideal.div (Ideal.exp ((x k : EReal) - (M : EReal))) (∑ j, Ideal.exp ((x j : EReal) - (M : EReal))) * (v k : EReal))
      = ((mean (fun k => Real.exp (x k)) v : ℝ) : EReal) := by
  have he : ∀ k, Ideal.exp ((x k : EReal) - (M : EReal)) = ((Real.exp (x k) * Real.exp (-M) : ℝ) : EReal) := fun k => by
    rw [← EReal.coe_sub, Ideal.exp_coe, sub_eq_add_neg, Real.exp_add]
  have hpos : (∑ k, Real.exp (x k) * Real.exp (-M)) ≠ 0 :=
    (Finset.sum_pos (fun k _ => mul_pos (Real.exp_pos _) (Real.exp_pos _)) Finset.univ_nonempty).ne'
  simp only [he, sum_coe, div_real _ hpos, ← EReal.coe_mul]
  rw [← mean_scale (fun k => Real.exp (x k)) v (Real.exp_pos (-M)).ne']
  unfold mean
  rw [Finset.sum_div]
  exact congrArg _ (Finset.sum_congr rfl fun k _ => by ring)

/-- The largest of finitely many reals, at least one, taken from minus infinity, is a real. -/
theorem fold_max_real {κ : Type} (x : κ → ℝ) {s : Finset κ} (hs : s.Nonempty) :
    ∃ M : ℝ, s.fold max (⊥ : EReal) (fun k => ((x k : ℝ) : EReal)) = (M : EReal) := by
  classical
  induction s using Finset.induction_on with
  | empty => exact absurd hs Finset.not_nonempty_empty
  | insert a s h ih =>
    rw [Finset.fold_insert h]
    rcases s.eq_empty_or_nonempty with rfl | hne
    · exact ⟨x a, max_bot_right _⟩
    · obtain ⟨M, e⟩ := ih hne
      exact ⟨max (x a) M, by rw [e]; exact (EReal.coe_strictMono.monotone.map_max).symm⟩

end Cert.Softmax

end
-- ==== Proof.Data.lean ====
module

public import Idealize.ShloMosaic.Lib.Pointwise
public import proofs.«01_k».proof.Proof.Softmax

@[expose] public section

noncomputable section

/-! # The arguments as real numbers, and attention written over the reals

`Q`, `X`, `W`, `b` are the query, the slots, the projection matrix and the bias, `A k` the floored activation of slot `k`. -/

namespace Cert.Attn

open Idealize.ShloMosaic

/-- The projected query plus its bias, at row `r` and feature `d`. -/
def proj (Q : Fin 64 → Fin 128 → ℝ) (W : Fin 128 → Fin 128 → ℝ) (b : Fin 128 → ℝ) (r : Fin 64) (d : Fin 128) : ℝ :=
  (∑ e, Q r e * W d e) + b d

/-- The score of query row `r` and slot `k`: the inner product of the projection with the slot over the square root of 128. -/
def score (Q : Fin 64 → Fin 128 → ℝ) (X : Fin 65536 → Fin 128 → ℝ) (W : Fin 128 → Fin 128 → ℝ) (b : Fin 128 → ℝ)
    (r : Fin 64) (k : Fin 65536) : ℝ :=
  (∑ d, proj Q W b r d * X k d) / Real.sqrt 128

/-- The unnormalised weight of slot `k` for query row `r`. -/
def wt (Q : Fin 64 → Fin 128 → ℝ) (X : Fin 65536 → Fin 128 → ℝ) (A : Fin 65536 → ℝ) (W : Fin 128 → Fin 128 → ℝ)
    (b : Fin 128 → ℝ) (r : Fin 64) (k : Fin 65536) : ℝ :=
  Real.exp (score Q X W b r k) * A k

/-- The attention over all slots, at row `r` and feature `d`: the mean of the slots' feature `d` with those weights. -/
def attn (Q : Fin 64 → Fin 128 → ℝ) (X : Fin 65536 → Fin 128 → ℝ) (A : Fin 65536 → ℝ) (W : Fin 128 → Fin 128 → ℝ)
    (b : Fin 128 → ℝ) (r : Fin 64) (d : Fin 128) : ℝ :=
  Softmax.mean (wt Q X A W b r) (fun k => X k d)

/-- The five argument arrays hold the reals `Q`, `X`, `W`, `b`, and activations that are positive reals `A` once floored. -/
structure Reals (q : FVec Ideal ⟨2, ![64, 128]⟩ .f32) (x : FVec Ideal ⟨2, ![65536, 128]⟩ .f32) (a : FVec Ideal ⟨1, ![65536]⟩ .f32)
    (w : FVec Ideal ⟨2, ![128, 128]⟩ .f32) (b' : FVec Ideal ⟨1, ![128]⟩ .f32) (Q : Fin 64 → Fin 128 → ℝ)
    (X : Fin 65536 → Fin 128 → ℝ) (A : Fin 65536 → ℝ) (W : Fin 128 → Fin 128 → ℝ) (b : Fin 128 → ℝ) : Prop where
  query : ∀ r d, q (ix2 r d) = ((Q r d : ℝ) : EReal)
  slots : ∀ k d, x (ix2 k d) = ((X k d : ℝ) : EReal)
  act : ∀ k, max (a (ix1 k)) (Ideal.ofBits .f32 0x383E6BCE#32) = ((A k : ℝ) : EReal)
  weight : ∀ d e, w (ix2 d e) = ((W d e : ℝ) : EReal)
  bias : ∀ d, b' (ix1 d) = ((b d : ℝ) : EReal)
  pos : ∀ k, 0 < A k

end Cert.Attn

end
-- ==== Proof.Accum.lean ====
module

public import proofs.«01_k».proof.Proof.Pieces
public import proofs.«01_k».proof.Proof.Block
public import proofs.«01_k».proof.Proof.Data

@[expose] public section

noncomputable section

/-! # What the kernel's result array holds, where every entry is a real number

The three scratches are followed point by point; the result is the quotient of two of them after the last point. -/

namespace Cert.KernelIdeal.Accum

open Idealize.ShloMosaic Idealize.ShloMosaic.TcCoe
open Cert.KernelIdeal Cert.KernelIdeal.Gen Cert.KernelIdeal.Block Cert.KernelIdeal.Pieces Cert.KernelIdeal.Value
open Cert.Softmax Cert.Attn

/-- The arguments device `c` starts with are those reals. -/
abbrev Holds (m : (ℓ : Loc nD τ sig) → Buf (Elt Ideal) ℓ) (c : Dev nD) (Q : Fin 64 → Fin 128 → ℝ)
    (X : Fin 65536 → Fin 128 → ℝ) (A : Fin 65536 → ℝ) (W : Fin 128 → Fin 128 → ℝ) (b : Fin 128 → ℝ) : Prop :=
  Reals (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) Q X A W b

variable {m : (ℓ : Loc nD τ sig) → Buf (Elt Ideal) ℓ} {c : Dev nD} {Q : Fin 64 → Fin 128 → ℝ}
  {X : Fin 65536 → Fin 128 → ℝ} {A : Fin 65536 → ℝ} {W : Fin 128 → Fin 128 → ℝ} {b : Fin 128 → ℝ}

/-- What the three scratches hold after the first `n` points: the scaled projection, and the sums over the first `n` blocks
    of the weights and of the weighted slots. -/
structure Held (Q : Fin 64 → Fin 128 → ℝ) (X : Fin 65536 → Fin 128 → ℝ) (A : Fin 65536 → ℝ) (W : Fin 128 → Fin 128 → ℝ)
    (b : Fin 128 → ℝ) (n : ℕ) (qp l acc : Vec Ideal S64x128 .f32) : Prop where
  qp : ∀ r d, qp (ix2 r d) = ((proj Q W b r d * (Real.sqrt 128)⁻¹ : ℝ) : EReal)
  l : ∀ r d, l (ix2 r d) = ((∑ t ∈ Finset.range n, ∑ k : Fin 8192, wt Q X A W b r (slot t k) : ℝ) : EReal)
  acc : ∀ r d, acc (ix2 r d)
    = ((∑ t ∈ Finset.range n, ∑ k : Fin 8192, wt Q X A W b r (slot t k) * X (slot t k) d : ℝ) : EReal)

/-- The weights one point computes. -/
theorem p_real (H : Holds m c Q X A W b) (t : Fin cfg0.N) (qp : Vec Ideal S64x128 .f32)
    (hq : ∀ r d, qp (ix2 r d) = ((proj Q W b r d * (Real.sqrt 128)⁻¹ : ℝ) : EReal)) (r : Fin 64) (k : Fin 8192) :
    k0_pay4 (F := Ideal) (iblk m c 3 t) qp (iblk m c 4 t) (ix2 r k) = ((wt Q X A W b r (slot t.val k) : ℝ) : EReal) := by
  rw [p_apply]
  simp only [hq, slots_apply, act_apply, H.slots, H.act, ← EReal.coe_mul, sum_coe, Ideal.exp_coe]
  unfold wt score
  rw [Finset.sum_div]
  exact congrArg (fun z : ℝ => ((Real.exp z * A (slot t.val k) : ℝ) : EReal)) (Finset.sum_congr rfl fun d _ => by ring)

/-- One point's step on the two sums. -/
theorem step_real (H : Holds m c Q X A W b) (t : Fin cfg0.N) (qp l acc : Vec Ideal S64x128 .f32)
    (h : Held Q X A W b t.val qp l acc) :
    Held Q X A W b (t.val + 1) qp (k0_pay5 (F := Ideal) (iblk m c 3 t) qp (iblk m c 4 t) l)
      (k0_pay6 (F := Ideal) (iblk m c 3 t) qp (iblk m c 4 t) acc) where
  qp := h.qp
  l r d := by
    rw [l_apply, h.l, Finset.sum_range_succ, EReal.coe_add]
    simp only [p_real H t qp h.qp, sum_coe]
  acc r d := by
    rw [acc_apply, h.acc, Finset.sum_range_succ, EReal.coe_add]
    simp only [p_real H t qp h.qp, slots_apply, H.slots, ← EReal.coe_mul, sum_coe]

/-- What the first point starts from: the scaled projection and two zeros. -/
theorem start_real (H : Holds m c Q X A W b) (t : Fin cfg0.N) :
    Held Q X A W b 0 (k0_pay1 (F := Ideal) (iblk m c 0 t) (iblk m c 1 t) (iblk m c 2 t)) (k0_pay2 (F := Ideal)) (k0_pay3 (F := Ideal)) where
  qp r d := by
    rw [qp_apply]
    simp only [query_apply, weight_apply, bias_apply, H.query, H.weight, H.bias, ← EReal.coe_mul, sum_coe, ← EReal.coe_add]
    rfl
  l r d := by rw [l_zero]; simp
  acc r d := by rw [acc_zero]; simp

/-- The fold after point `j`, for `j` before the last point: the sums over the first `j + 1` blocks. -/
theorem held_at (H : Holds m c Q X A W b) : ∀ (j : ℕ) (hj : 0 + j < cfg0.N), j < 7 →
    Held Q X A W b (j + 1)
      (Pipeline.accAt (fun n h => stAt0 m c n h junk0) (stAt0 m c) 0 j hj).2.1
      (Pipeline.accAt (fun n h => stAt0 m c n h junk0) (stAt0 m c) 0 j hj).2.2.1
      (Pipeline.accAt (fun n h => stAt0 m c n h junk0) (stAt0 m c) 0 j hj).2.2.2
  | 0, hj, _ => by
    have e : Pipeline.accAt (fun n h => stAt0 m c n h junk0) (stAt0 m c) 0 0 hj = stAt0 m c 0 hj junk0 := rfl
    rw [e, stAt0_A m c ⟨0, hj⟩ junk0 rfl (by dsimp only; omega)]
    dsimp only
    rw [first_qp, first_l, first_acc]
    exact step_real H ⟨0, hj⟩ _ _ _ (start_real H ⟨0, hj⟩)
  | j + 1, hj, h7 => by
    have ih := held_at H j (by omega) (by omega)
    have e : Pipeline.accAt (fun n h => stAt0 m c n h junk0) (stAt0 m c) 0 (j + 1) hj
        = stAt0 m c (0 + (j + 1)) hj (Pipeline.accAt (fun n h => stAt0 m c n h junk0) (stAt0 m c) 0 j (by omega)) := rfl
    have hm : (⟨0 + (j + 1), hj⟩ : Fin cfg0.N).val = j + 1 := Nat.zero_add _
    rw [e, stAt0_B m c ⟨0 + (j + 1), hj⟩ _ (by rw [hm]; omega) (by rw [hm]; omega)]
    dsimp only
    rw [mid_l, mid_acc]
    unfold sout0_B_0
    have := step_real H ⟨0 + (j + 1), hj⟩ _ _ _ (hm.symm ▸ ih)
    rw [hm] at this
    exact this

/-- Summing block by block is summing over all slots. -/
theorem sum_slot (f : Fin 65536 → ℝ) : (∑ t ∈ Finset.range 8, ∑ k : Fin 8192, f (slot t k)) = ∑ k, f k := by
  rw [← Fin.sum_univ_eq_sum_range (fun t => ∑ k : Fin 8192, f (slot t k)) 8, ← Fintype.sum_prod_type',
    ← Equiv.sum_comp (finProdFinEquiv : Fin 8 × Fin 8192 ≃ Fin (8 * 8192)) f]
  refine Finset.sum_congr rfl fun p _ => congrArg f (Fin.ext ?_)
  have h1 := p.1.isLt
  have h2 := p.2.isLt
  show (8192 * p.1.val + p.2.val) % 65536 = p.2.val + 8192 * p.1.val
  omega

/-- The quotient of the two sums over all eight blocks is the attention. -/
theorem quotient_real (H : Holds m c Q X A W b) {n : ℕ} (hn : n = 8) {qp l acc : Vec Ideal S64x128 .f32}
    (h : Held Q X A W b n qp l acc) (r : Fin 64) (d : Fin 128) :
    k0_pay7 (F := Ideal) acc l (ix2 r d) = ((attn Q X A W b r d : ℝ) : EReal) := by
  subst hn
  rw [out_apply, h.l, h.acc, sum_slot (fun k => wt Q X A W b r k), sum_slot (fun k => wt Q X A W b r k * X k d)]
  exact div_real _ (Finset.sum_pos (fun k _ => mul_pos (Real.exp_pos _) (H.pos k)) Finset.univ_nonempty).ne'

/-- What the last point stores as the result, given what the point before left in the scratches. -/
theorem last_real (H : Holds m c Q X A W b) (t : Fin cfg0.N) (ht : t.val = 7)
    (s : Vec Ideal S64x128 .f32 × Vec Ideal S64x128 .f32 × Vec Ideal S64x128 .f32 × Vec Ideal S64x128 .f32)
    (h : Held Q X A W b t.val s.2.1 s.2.2.1 s.2.2.2) (r : Fin 64) (d : Fin 128) :
    (stAt0 m c t.val t.isLt s).1 (ix2 r d) = ((attn Q X A W b r d : ℝ) : EReal) := by
  rw [stAt0_C m c t s (by omega) (by omega)]
  dsimp only
  rw [last_out]
  exact quotient_real H (by omega) (step_real H t _ _ _ h) r d

/-- The result after the last point of the fold is the attention. -/
theorem fold_last (H : Holds m c Q X A W b) (r : Fin 64) (d : Fin 128) : ∀ (j : ℕ) (hj : 0 + j < cfg0.N), j = 7 →
    (Pipeline.accAt (fun n h => stAt0 m c n h junk0) (stAt0 m c) 0 j hj).1 (ix2 r d) = ((attn Q X A W b r d : ℝ) : EReal)
  | 0, _, h => absurd h (by decide)
  | j + 1, hj, h => by
    have ih := held_at H j (Nat.lt_of_succ_lt hj) (by omega)
    have hm : (⟨0 + (j + 1), hj⟩ : Fin cfg0.N).val = j + 1 := Nat.zero_add _
    rw [Pipeline.accAt_succ]
    exact last_real H ⟨0 + (j + 1), hj⟩ (hm.trans h) _ (hm.symm ▸ ih) r d

/-- THE KERNEL'S RESULT is the attention over all slots. -/
theorem result_real (H : Holds m c Q X A W b) (r : Fin 64) (d : Fin 128) :
    G5 m c (ix2 r d) = ((attn Q X A W b r d : ℝ) : EReal) :=
  (congrFun (G5_last m c) (ix2 r d)).trans (fold_last H r d 7 _ rfl)

end Cert.KernelIdeal.Accum

end
-- ==== Proof.Ref.lean ====
module

public import proofs.«01_k».proof.Proof.Gen.ReferenceIdeal.Run
public import Idealize.ShloMosaic.Lib.Pointwise
public import proofs.«01_k».proof.Proof.Data
public import Idealize.ShloMosaic.PureOps.Reduce
public import Idealize.ShloMosaic.PureOps.Ideal.Laws

@[expose] public section

set_option maxRecDepth 16384

noncomputable section

/-! # What the reference computes, element by element, over the extended reals

The floor on the logarithm of the activation is a number `L` throughout, so that one account serves both references. -/

namespace Cert.ReferenceIdeal.Ref

open Idealize.ShloMosaic Idealize.ShloMosaic.TcCoe
open Cert.ReferenceIdeal Cert.ReferenceIdeal.Gen Cert.ReferenceIdeal.Value

/-- The reference's scores: the projected query against every slot, over the root of the slot width, plus the logarithm
    of the activation floored at `L`. -/
def logits (L : EReal) (q : FVec Ideal S64x128 .f32) (x : FVec Ideal S65536x128 .f32) (a : FVec Ideal S65536 .f32)
    (w : FVec Ideal S128x128 .f32) (b : FVec Ideal S128 .f32) : FVec Ideal S64x65536 .f32 :=
  addf (Host.divf (Host.dotGeneral dot_S64x128_S128x65536_S64x65536_1_0_0_1_n_n none
        (addf (Host.dotGeneral dot_S64x128_S128x128_S64x128_1_0_0_1_n_n none q (transpose S128x128 [1, 0] w transposes_S128x128_S128x128_1_0))
          (broadcastInDim S64x128 ![0, 1] bcast_S1x128_S64x128_0_1 (broadcastInDim S1x128 ![1] bcast_S128_S1x128_1 b)))
        (transpose S128x65536 [1, 0] x transposes_S65536x128_S128x65536_1_0))
      (broadcastInDim S64x65536 ![] bcast_S_S64x65536 (Host.sqrt (constant S_ .f32 0x43000000#32))))
    (broadcastInDim S64x65536 ![0, 1] bcast_S1x65536_S64x65536_0_1 (broadcastInDim S1x65536 ![1] bcast_S65536_S1x65536_1
      (maximumf (broadcastInDim S65536 ![] bcast_S_S65536 (fun _ : S_.Idx => L)) (Host.log a))))

/-- The row maxima the reference subtracts. -/
def rowMax (s : FVec Ideal S64x65536 .f32) : FVec Ideal S64 .f32 :=
  maximumf (broadcastInDim S64 ![] bcast_S_S64 (constant S_ .f32 0xFF800000#32))
    (Host.reduce FloatOps.maximumf s (constant S_ .f32 0xFF800000#32) reducesTo_S64x65536_S64_d1 h_S_)

/-- The exponentials of the scores less their row's maximum. -/
def exps (s : FVec Ideal S64x65536 .f32) : FVec Ideal S64x65536 .f32 :=
  Host.exp (subf s (broadcastInDim S64x65536 ![0, 1] bcast_S64x1_S64x65536_0_1 (broadcastInDim S64x1 ![0] bcast_S64_S64x1_0 (rowMax s))))

/-- The softmax of each row. -/
def soft (s : FVec Ideal S64x65536 .f32) : FVec Ideal S64x65536 .f32 :=
  Host.divf (exps s) (broadcastInDim S64x65536 ![0, 1] bcast_S64x1_S64x65536_0_1 (broadcastInDim S64x1 ![0] bcast_S64_S64x1_0
    (Host.reduceAdd (exps s) (constant S_ .f32 0x00000000#32) reducesTo_S64x65536_S64_d1 h_S_)))

/-- The weighted sum of the slots. -/
def total (p : FVec Ideal S64x65536 .f32) (x : FVec Ideal S65536x128 .f32) : FVec Ideal S64x128 .f32 :=
  Host.dotGeneral dot_S64x65536_S65536x128_S64x128_1_0_0_1_n_n none p x

/-- The reference's result is the softmax of its scores, floored at -10, times the slots. -/
theorem result_eq (m : (ℓ : Loc nD τ sig) → Buf (Elt Ideal) ℓ) (c : Dev nD) :
    res_out0 m c = total
      (soft (logits (Ideal.ofBits .f32 0xC1200000#32) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))) (m ((c.tc : Thread nD τ).loc main_arg1)) := by
  unfold res_out0 res_main_v26 total soft exps rowMax logits
  rfl

/-- A score: the projected query against the slot, over the root of the printed 128, plus the logarithm floored
    at `L`. -/
theorem logits_apply (L : EReal) (q : FVec Ideal S64x128 .f32) (x : FVec Ideal S65536x128 .f32) (a : FVec Ideal S65536 .f32)
    (w : FVec Ideal S128x128 .f32) (b : FVec Ideal S128 .f32) (r : Fin 64) (k : Fin 65536) :
    logits L q x a w b (ix2 r k)
      = Ideal.div (∑ d : Fin 128, ((∑ e : Fin 128, q (ix2 r e) * w (ix2 d e)) + b (ix1 d)) * x (ix2 k d))
          (Ideal.sqrt (Ideal.ofBits .f32 0x43000000#32))
        + max L (Ideal.log (a (ix1 k))) := by
  pointwise [logits]

/-- An exponential is of the score less its row's maximum. -/
theorem exps_apply (s : FVec Ideal S64x65536 .f32) (r : Fin 64) (k : Fin 65536) :
    exps s (ix2 r k) = Ideal.exp (s (ix2 r k) - rowMax s (ix1 r)) := by
  pointwise [exps]

/-- A softmax entry is its exponential over the sum of its row's. -/
theorem soft_apply (s : FVec Ideal S64x65536 .f32) (r : Fin 64) (k : Fin 65536) :
    soft s (ix2 r k) = Ideal.div (exps s (ix2 r k)) (∑ j : Fin 65536, exps s (ix2 r j)) := by
  pointwise [soft]

/-- A result entry is the sum over the slots of the weight times the slot. -/
theorem total_apply (p : FVec Ideal S64x65536 .f32) (x : FVec Ideal S65536x128 .f32) (r : Fin 64) (d : Fin 128) :
    total p x (ix2 r d) = ∑ k : Fin 65536, p (ix2 r k) * x (ix2 k d) := by
  pointwise [total]

/-- Dropping the slot coordinate of an index leaves its row. -/
theorem drop_row (r : Fin 64) (k : Fin 65536) : reducesTo_S64x65536_S64_d1.drop (ix2 r k) = ix1 r := by
  funext b
  apply Fin.ext
  match b with
  | ⟨0, _⟩ => exact reducesTo_S64x65536_S64_d1.drop_apply_val_of_eq (ix2 r k) 0 0

/-- Where every score is a real, every row's maximum is one. -/
theorem rowMax_real (s : FVec Ideal S64x65536 .f32) (f : S64x65536.Idx → ℝ) (hs : ∀ i, s i = ((f i : ℝ) : EReal)) (r : Fin 64) :
    ∃ M : ℝ, rowMax s (ix1 r) = (M : EReal) := by
  obtain rfl : s = fun i => ((f i : ℝ) : EReal) := funext hs
  have hb : Ideal.ofBits .f32 0xFF800000#32 = (⊥ : EReal) := by simp [Ideal.ofBits, Ideal.ieee]
  have e : rowMax (fun i => ((f i : ℝ) : EReal)) (ix1 r)
      = max (Ideal.ofBits .f32 0xFF800000#32) ((Finset.univ.filter fun i => reducesTo_S64x65536_S64_d1.drop i = ix1 r).fold max
          (Ideal.ofBits .f32 0xFF800000#32) (fun i => ((f i : ℝ) : EReal))) := by
    unfold rowMax
    rw [show ∀ (x y : FVec Ideal S64 .f32) j, maximumf x y j = max (x j) (y j) from fun _ _ _ => rfl]
    rw [Host.reduce_eq_fold]
    rfl
  obtain ⟨M, hM⟩ := Softmax.fold_max_real f (s := Finset.univ.filter fun i => reducesTo_S64x65536_S64_d1.drop i = ix1 r)
    ⟨ix2 r 0, Finset.mem_filter.mpr ⟨Finset.mem_univ _, drop_row r 0⟩⟩
  exact ⟨M, by rw [e, hb, hM]; exact max_eq_right bot_le⟩

/-! ## The value -/

/-- The printed slot width is 128. -/
theorem ofBits_128 : Ideal.ofBits .f32 0x43000000#32 = ((128 : ℝ) : EReal) := by
  simp [Ideal.ofBits, Ideal.ieee, -EReal.coe_mul]; norm_num

open Cert.Attn Cert.Softmax

variable {L : EReal} {q : FVec Ideal S64x128 .f32} {x : FVec Ideal S65536x128 .f32} {a : FVec Ideal S65536 .f32}
  {w : FVec Ideal S128x128 .f32} {b' : FVec Ideal S128 .f32} {Q : Fin 64 → Fin 128 → ℝ} {X : Fin 65536 → Fin 128 → ℝ}
  {A : Fin 65536 → ℝ} {W : Fin 128 → Fin 128 → ℝ} {b : Fin 128 → ℝ}

/-- A score is the real score plus the logarithm of the floored activation. -/
theorem logits_real (H : Reals q x a w b' Q X A W b)
    (hL : ∀ k, max L (Ideal.log (a (ix1 k))) = ((Real.log (A k) : ℝ) : EReal))
    (r : Fin 64) (k : Fin 65536) :
    logits L q x a w b' (ix2 r k) = ((score Q X W b r k + Real.log (A k) : ℝ) : EReal) := by
  have h128 : Real.sqrt 128 ≠ 0 := (Real.sqrt_pos.mpr (by norm_num)).ne'
  rw [logits_apply, hL, ofBits_128, Ideal.sqrt_coe, if_neg (by norm_num)]
  simp only [H.query, H.slots, H.weight, H.bias, ← EReal.coe_mul, sum_coe, ← EReal.coe_add, div_real _ h128]
  rfl

/-- THE REFERENCE'S RESULT is the attention over all slots. -/
theorem result_real (H : Reals q x a w b' Q X A W b)
    (hL : ∀ k, max L (Ideal.log (a (ix1 k))) = ((Real.log (A k) : ℝ) : EReal))
    (r : Fin 64) (d : Fin 128) :
    total (soft (logits L q x a w b')) x (ix2 r d) = ((attn Q X A W b r d : ℝ) : EReal) := by
  obtain ⟨M, hM⟩ := rowMax_real (logits L q x a w b') (fun i => score Q X W b (i 0) (i 1) + Real.log (A (i 1)))
    (fun i => by rw [eq_ix2 i]; exact logits_real H hL (i 0) (i 1)) r
  rw [total_apply]
  simp only [soft_apply, exps_apply, hM, logits_real H hL, H.slots]
  rw [softmax_mean]
  unfold attn
  refine congrArg (fun v : Fin 65536 → ℝ => ((mean v (fun k => X k d) : ℝ) : EReal)) (funext fun k => ?_)
  unfold wt
  rw [Real.exp_add, Real.exp_log (H.pos k)]

end Cert.ReferenceIdeal.Ref

end
-- ==== Proof.Floored.lean ====
module

public import proofs.«01_k».proof.Proof.Gen.FlooredIdeal.Run
public import proofs.«01_k».proof.Proof.Ref

@[expose] public section

set_option maxRecDepth 16384

noncomputable section

/-! # The second reference differs from the first in its floor alone -/

namespace Cert.FlooredIdeal.Ref

open Idealize.ShloMosaic Idealize.ShloMosaic.TcCoe
open Cert.FlooredIdeal Cert.FlooredIdeal.Gen Cert.FlooredIdeal.Value
open Cert.ReferenceIdeal.Ref (total soft exps rowMax logits)

/-- The second reference's result is the softmax of its scores, floored at the logarithm of the f32 number next to `exp (-10)`,
    times the slots. -/
theorem result_eq (m : (ℓ : Loc nD τ sig) → Buf (Elt Ideal) ℓ) (c : Dev nD) :
    res_out0 m c = total
      (soft (logits (Ideal.log (Ideal.ofBits .f32 0x383E6BCE#32)) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)))) (m ((c.tc : Thread nD τ).loc main_arg1)) := by
  unfold res_out0 res_main_v27 total soft exps rowMax logits
  rfl

end Cert.FlooredIdeal.Ref

end
-- ==== Proof.Pre.lean ====
module

public import Idealize.ShloMosaic.Lib.ReduceAll
public import Idealize.ShloMosaic.Lib.WordCmp
public import proofs.«01_k».proof.Proof.Gen.Pre_finite
public import proofs.«01_k».proof.Proof.Gen.Pre_above_floor
public import proofs.«01_k».proof.Proof.Data

@[expose] public section

noncomputable section

/-! # What the precondition says: the arguments are real numbers

`finite` all ones makes every query, slot, weight and bias a real number, and every activation less than infinity. An
activation below the floor may still be minus infinity, zero or negative: both sides floor it. `above_floor` adds that none is. -/

namespace Cert.Pre_finite.Decode

open Idealize.ShloMosaic Idealize.ShloMosaic.TcCoe
open Cert.Pre_finite Cert.Pre_finite.Gen Cert.Attn

instance : Subsingleton S_.Idx := ⟨fun a _ => funext fun k => k.elim0⟩

/-- The word `0x7F800000` is plus infinity. -/
theorem ofBits_inf : Ideal.ofBits .f32 0x7F800000#32 = (⊤ : EReal) := by simp [Ideal.ofBits, Ideal.ieee]

/-- If every element of `x` compares below infinity, every element is below infinity. -/
theorem lt_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt x (broadcastInDim s ![] hb (constant S_ .f32 0x7F800000#32))) (constantI S_ 1 1#1) hr h_S_ j
      = 1#1) (i : s.Idx) : x i < (⊤ : EReal) := by
  have h := Host.reduce_andi_all _ _ hr h_S_ j e i
  have h' : Ideal.cmp .olt (x i) (Ideal.ofBits .f32 0x7F800000#32) = 1#1 := h
  rw [ofBits_inf] at h'
  simpa [Ideal.cmp, WordCmp.ofBool_eq_one_iff] using h'

/-- An extended real whose magnitude is below infinity is a real number. -/
theorem coe_of_abs_lt {y : EReal} (h : max y (-y) < ⊤) : y = ((y.toReal : ℝ) : EReal) := by
  refine (EReal.coe_toReal (fun e => ?_) (fun e => ?_)).symm <;> subst e <;> simp at h

/-- If the magnitude of every element of `x` compares below infinity, every element is a real number. -/
theorem coe_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant S_ .f32 0x7F800000#32)))
      (constantI S_ 1 1#1) hr h_S_ j = 1#1) (i : s.Idx) : x i = (((x i : EReal).toReal : ℝ) : EReal) :=
  coe_of_abs_lt (lt_of_all (Host.absf x) hb hr j e i)

/-- The floor on the activations, as a real number. -/
def floor : ℝ := (Ideal.ofBits .f32 0x383E6BCE#32).toReal

/-- The floor's word holds a positive real number. -/
theorem floor_pos : Ideal.ofBits .f32 0x383E6BCE#32 = ((floor : ℝ) : EReal) ∧ 0 < floor := by
  obtain ⟨φ, h, hp⟩ : ∃ φ : ℝ, Ideal.ofBits .f32 0x383E6BCE#32 = ((φ : ℝ) : EReal) ∧ 0 < φ := by
    refine ⟨_, by simp [Ideal.ofBits, Ideal.ieee, -EReal.coe_mul]; rfl, by norm_num⟩
  rw [floor, h, EReal.toReal_coe]
  exact ⟨rfl, hp⟩

/-- An activation below infinity, floored, is a positive real number, and its logarithm is the logarithm of the activation
    floored at the logarithm of the floor. -/
theorem act_real {y : EReal} (h : y < ⊤) :
    ∃ A : ℝ, 0 < A ∧ max y (Ideal.ofBits .f32 0x383E6BCE#32) = ((A : ℝ) : EReal)
      ∧ max (Ideal.log (Ideal.ofBits .f32 0x383E6BCE#32)) (Ideal.log y) = ((Real.log A : ℝ) : EReal) := by
  obtain ⟨hφ, hp⟩ := floor_pos
  rw [hφ, Ideal.log_coe, if_neg (not_le.2 hp)]
  induction y with
  | bot => exact ⟨floor, hp, by simp, by simp⟩
  | top => exact absurd h (lt_irrefl _)
  | coe a =>
    refine ⟨max a floor, lt_max_of_lt_right hp, (EReal.coe_strictMono.monotone.map_max (a := a) (b := floor)).symm, ?_⟩
    rw [Ideal.log_coe]
    split
    · rw [max_eq_right (by linarith : a ≤ floor), max_eq_left bot_le]
    · rename_i ha
      rw [← EReal.coe_strictMono.monotone.map_max, max_comm]
      congr 1
      rcases le_total a floor with hl | hl
      · rw [max_eq_right hl, max_eq_right (Real.log_le_log (not_le.1 ha) hl)]
      · rw [max_eq_left hl, max_eq_left (Real.log_le_log hp hl)]

/-- Arguments of which `finite` holds are real numbers, with positive real floored activations whose logarithms are the
    floored logarithms. -/
theorem reals (q : FVec Ideal S64x128 .f32) (x : FVec Ideal S65536x128 .f32) (a : FVec Ideal S65536 .f32)
    (w : FVec Ideal S128x128 .f32) (b' : FVec Ideal S128 .f32) (h : fn (F := Ideal) q x a w b' = fun _ => 1#1) :
    ∃ Q X A W b, Reals q x a w b' Q X A W b
      ∧ ∀ k, max (Ideal.log (Ideal.ofBits .f32 0x383E6BCE#32)) (Ideal.log (a (ix1 k))) = ((Real.log (A k) : ℝ) : EReal) := by
  have e := congrFun h (fun k => k.elim0)
  unfold fn fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  choose A hA hm hl using fun k : Fin 65536 => act_real (lt_of_all a _ _ _ e2 (ix1 k))
  exact ⟨fun r d => (q (ix2 r d) : EReal).toReal, fun k d => (x (ix2 k d) : EReal).toReal, A,
    fun d e => (w (ix2 d e) : EReal).toReal, fun d => (b' (ix1 d) : EReal).toReal,
    ⟨fun r d => coe_of_all q _ _ _ e0 _, fun k d => coe_of_all x _ _ _ e1 _, hm, fun d e => coe_of_all w _ _ _ e3 _,
      fun d => coe_of_all b' _ _ _ e4 _, hA⟩, hl⟩

/-- The logarithm of the floor is at least -10. -/
theorem neg_ten_le_log_floor : (-10 : ℝ) ≤ Real.log floor := by
  obtain ⟨h, hp⟩ := floor_pos
  have hf : floor = 6239719 / 137438953472 := by
    rw [floor]; simp [Ideal.ofBits, Ideal.ieee, -EReal.coe_mul]; norm_num
  rw [Real.le_log_iff_exp_le hp, hf, Real.exp_neg, inv_le_comm₀ (Real.exp_pos _) (by norm_num)]
  have he : Real.exp 10 = Real.exp 1 ^ 10 := by rw [← Real.exp_nat_mul]; norm_num
  rw [he]
  have h1 : (2.7182818283 : ℝ) ≤ Real.exp 1 :=
    le_trans (by norm_num [Finset.sum_range_succ, Nat.factorial]) (Real.sum_le_exp_of_nonneg zero_le_one 14)
  exact le_trans (by norm_num) (pow_le_pow_left₀ (by norm_num) h1 10)

/-- Of an activation at or above the floor, neither floor on the logarithm changes anything. -/
theorem log_above {y : EReal} (h : Ideal.ofBits .f32 0x383E6BCE#32 ≤ y) :
    max (Ideal.ofBits .f32 0xC1200000#32) (Ideal.log y) = max (Ideal.log (Ideal.ofBits .f32 0x383E6BCE#32)) (Ideal.log y) := by
  obtain ⟨hφ, hp⟩ := floor_pos
  have h10 : Ideal.ofBits .f32 0xC1200000#32 = ((-10 : ℝ) : EReal) := by
    simp [Ideal.ofBits, Ideal.ieee, -EReal.coe_mul]; norm_num
  rw [hφ] at h
  rw [h10, hφ, Ideal.log_coe, if_neg (not_le.2 hp)]
  have hlog : ((Real.log floor : ℝ) : EReal) ≤ Ideal.log y := by
    induction y with
    | bot => exact absurd h (by simp)
    | top => exact le_top
    | coe a =>
      have ha : floor ≤ a := EReal.coe_le_coe_iff.1 h
      rw [Ideal.log_coe, if_neg (not_le.2 (hp.trans_le ha))]
      exact EReal.coe_le_coe_iff.2 (Real.log_le_log hp ha)
  rw [max_eq_right hlog, max_eq_right ((EReal.coe_le_coe_iff.2 neg_ten_le_log_floor).trans hlog)]

/-- Arguments of which `above_floor` holds satisfy `finite`, and no activation is below the floor. -/
theorem above (q : FVec Ideal S64x128 .f32) (x : FVec Ideal S65536x128 .f32) (a : FVec Ideal S65536 .f32)
    (w : FVec Ideal S128x128 .f32) (b' : FVec Ideal S128 .f32) (h : Cert.Pre_above_floor.fn (F := Ideal) q x a w b' = fun _ => 1#1) :
    fn (F := Ideal) q x a w b' = (fun _ => 1#1) ∧ ∀ i, Ideal.ofBits .f32 0x383E6BCE#32 ≤ a i := by
  have e : ∀ j : S_.Idx, fn (F := Ideal) q x a w b' j = 1#1
      ∧ Host.reduce IntOp.andi (cmpf .oge a (broadcastInDim S65536 ![] Facts.bcast_S_S65536 (constant S_ .f32 0x383E6BCE#32)))
        (constantI S_ 1 1#1) Facts.reducesTo_S65536_S_d0 Facts.h_S_ j = 1#1 := fun j => by
    have e := congrFun h j
    unfold Cert.Pre_above_floor.fn Cert.Pre_above_floor.fn_part1 at e
    exact IntOp.andi_eq_one.1 e
  refine ⟨funext fun j => (e j).1, fun i => ?_⟩
  have h' : Ideal.cmp .oge (a i) (Ideal.ofBits .f32 0x383E6BCE#32) = 1#1 :=
    Host.reduce_andi_all _ _ _ _ (fun k => k.elim0) (e fun k => k.elim0).2 i
  simpa [Ideal.cmp, WordCmp.ofBool_eq_one_iff] using h'

end Cert.Pre_finite.Decode

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.FlooredIdeal
public import proofs.«01_k».proof.Proof.Gen.FlooredIdeal.Run
public import proofs.«01_k».proof.Proof.Gen.Pre_above_floor
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Accum
public import proofs.«01_k».proof.Proof.Ref
public import proofs.«01_k».proof.Proof.Floored
public import proofs.«01_k».proof.Proof.Pre

@[expose] public section

noncomputable section

namespace Cert.Proof

open Idealize.ShloMosaic Idealize.SL.Sem Cert.Kernel

/-- The reference runs, leaves its arguments unchanged and every semaphore at zero. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the second reference. -/
theorem frame_floored : quiescent_FlooredIdeal := fun m ρ _ =>
  (θ_run Cert.FlooredIdeal.defs _ _).mono (fun r h => ⟨fun c => (h c).2, sem_eq_zero_of_no_sems (by decide) r.2⟩)
    (Cert.FlooredIdeal.Value.run (F := Ideal) m ρ)

open Cert.ReferenceIdeal.Ref in
/-- Where `finite` holds of the kernel's arguments, the kernel's result array is the softmax of the scores times the slots, for
    every floor `L` on the logarithm of the activation that acts as the logarithm of the kernel's floor does. -/
theorem kernel_eq (m : (ℓ : Loc Cert.KernelIdeal.nD Cert.KernelIdeal.τ Cert.KernelIdeal.sig) → Buf (Elt Ideal) ℓ)
    (c : Dev Cert.KernelIdeal.nD) (L : EReal)
    (hpre : Cert.Pre_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1)
    (hL : ∀ k : Fin 65536,
      max L (Ideal.log (m ((c.tc : Thread Cert.KernelIdeal.nD Cert.KernelIdeal.τ).loc Cert.KernelIdeal.main_arg2) (ix1 k)))
      = max (Ideal.log (Ideal.ofBits .f32 0x383E6BCE#32))
          (Ideal.log (m ((c.tc : Thread Cert.KernelIdeal.nD Cert.KernelIdeal.τ).loc Cert.KernelIdeal.main_arg2) (ix1 k)))) :
    total (soft (logits L (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))))
      (m ((c.tc : Thread Cert.KernelIdeal.nD Cert.KernelIdeal.τ).loc Cert.KernelIdeal.main_arg1))
    = Cert.KernelIdeal.Value.G5 m c := by
  obtain ⟨Q, X, A, W, b, H, hA⟩ := Cert.Pre_finite.Decode.reals _ _ _ _ _ hpre
  funext i
  have hi : i = ix2 (i 0) (i 1) := by
    funext k; fin_cases k <;> rfl
  rw [hi]
  exact (result_real H (fun k => (hL k).trans (hA k)) _ _).trans (Cert.KernelIdeal.Accum.result_real H _ _).symm

/-- The kernel and the second reference run and end with equal results, where `finite` holds. -/
theorem algebraic_floored : algebraic_KernelIdeal_FlooredIdeal_pre_finite := by
  intro m ρ m' ρ' hpre hagree
  refine ⟨_, Cert.KernelIdeal.Value.run (F := Ideal) m ρ, ?_⟩
  refine (θ_run Cert.FlooredIdeal.defs _ _).mono (fun _ h c => ⟨?_, (h c).2⟩) (Cert.FlooredIdeal.Value.run (F := Ideal) m' ρ')
  obtain ⟨h0, h1, h2, h3, h4⟩ := hagree c
  refine (h c).1.trans ((Cert.FlooredIdeal.Ref.result_eq m' c).trans ?_)
  rw [h0, h1, h2, h3, h4]
  exact kernel_eq m c _ (hpre c) fun _ => rfl

/-- The kernel and the reference run and end with equal results, where `above_floor` holds. -/
theorem algebraic_reference : algebraic_KernelIdeal_ReferenceIdeal_pre_above_floor := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  obtain ⟨hf, ha⟩ := Cert.Pre_finite.Decode.above _ _ _ _ _ (hpre c)
  refine (h c).1.trans ((Cert.ReferenceIdeal.Ref.result_eq m' c).trans ?_)
  rw [h0, h1, h2, h3, h4]
  exact kernel_eq m c _ hf fun k => Cert.Pre_finite.Decode.log_above (ha _)

/-- Every claim of the certificate. -/
theorem claim : Cert.Claim := ⟨Cert.Kernel.Gen.facts, Cert.KernelIdeal.Gen.facts, Cert.ReferenceIdeal.Gen.facts,
  Cert.FlooredIdeal.Gen.facts, Cert.Pre_finite.Gen.facts, Cert.Pre_above_floor.Gen.facts,
  fun m ρ _ => Cert.Kernel.Gen.frame m ρ,
  fun m ρ _ => Cert.KernelIdeal.Gen.frame m ρ,
  fun m ρ _ => Cert.KernelIdeal.Gen.frame m ρ,
  fun m ρ _ => Cert.KernelIdeal.Gen.frame m ρ,
  frame_reference,
  fun m ρ _ => frame_reference m ρ trivial,
  frame_floored,
  fun m ρ _ => frame_floored m ρ trivial,
  IdealRules.named_const.statement Cert.KernelIdeal.κ "inv_sqrt_d" .f32 0x3DB504F3#32 (((Real.sqrt 128)⁻¹ : ℝ) : EReal) rfl,
  algebraic_floored,
  algebraic_reference⟩

end Cert.Proof

end
